-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x5x1024 : Shape := ⟨3, ![16384, 5, 1024]⟩
abbrev S5x1024 : Shape := ⟨2, ![5, 1024]⟩
abbrev S5x16384x1024 : Shape := ⟨3, ![5, 16384, 1024]⟩
abbrev S3x2048x1024 : Shape := ⟨3, ![3, 2048, 1024]⟩
abbrev S_ : Shape := ⟨0, ![]⟩
abbrev S3 : Shape := ⟨1, ![3]⟩
abbrev S1 : Shape := ⟨1, ![1]⟩
abbrev S1x2048x1024 : Shape := ⟨3, ![1, 2048, 1024]⟩
abbrev S2048x1024 : Shape := ⟨2, ![2048, 1024]⟩
abbrev S1x1024 : Shape := ⟨2, ![1, 1024]⟩

abbrev nBuf : Space → Nat
  | .hbm => 5
  | .vmem => 3
  | .smem => 0
  | _ => 0

abbrev bufTy : (tb : Table) → Fin (tcTables nBuf tb) → BufTy
  | .hbm, ⟨0, _⟩ => ⟨S16384x5x1024, .f32⟩
  | .hbm, ⟨1, _⟩ => ⟨S5x1024, .f32⟩
  | .hbm, ⟨2, _⟩ => ⟨S5x16384x1024, .f32⟩
  | .hbm, ⟨3, _⟩ => ⟨S5x16384x1024, .f32⟩
  | .hbm, ⟨4, _⟩ => ⟨S16384x5x1024, .f32⟩
  | .local _ .vmem, ⟨0, _⟩ => ⟨S5x1024, .f32⟩
  | .local _ .vmem, ⟨1, _⟩ => ⟨S3x2048x1024, .f32⟩
  | .local _ .vmem, ⟨2, _⟩ => ⟨S3x2048x1024, .f32⟩
  | _, _ => ⟨S16384x5x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== ReferenceIdeal.lean ====
abbrev S16384x5x1024 : Shape := ⟨3, ![16384, 5, 1024]⟩
abbrev S5x1024 : Shape := ⟨2, ![5, 1024]⟩
abbrev S5 : Shape := ⟨1, ![5]⟩
abbrev S_ : Shape := ⟨0, ![]⟩
abbrev S5x1 : Shape := ⟨2, ![5, 1]⟩
abbrev S1 : Shape := ⟨1, ![1]⟩
abbrev S1x1 : Shape := ⟨2, ![1, 1]⟩
abbrev S1x5x1024 : Shape := ⟨3, ![1, 5, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16384x5x1024, .f32⟩
  | .hbm, ⟨1, _⟩ => ⟨S5x1024, .f32⟩
  | .hbm, ⟨2, _⟩ => ⟨S5, .i32⟩
  | .hbm, ⟨3, _⟩ => ⟨S_, .i32⟩
  | .hbm, ⟨4, _⟩ => ⟨S5, .i32⟩
  | .hbm, ⟨5, _⟩ => ⟨S5, .i1⟩
  | .hbm, ⟨6, _⟩ => ⟨S_, .i32⟩
  | .hbm, ⟨7, _⟩ => ⟨S5, .i32⟩
  | .hbm, ⟨8, _⟩ => ⟨S5, .i32⟩
  | .hbm, ⟨9, _⟩ => ⟨S5, .i32⟩
  | .hbm, ⟨10, _⟩ => ⟨S5x1, .i32⟩
  | .hbm, ⟨11, _⟩ => ⟨S1, .i32⟩
  | .hbm, ⟨12, _⟩ => ⟨S_, .i32⟩
  | .hbm, ⟨13, _⟩ => ⟨S5x1, .i32⟩
  | .hbm, ⟨14, _⟩ => ⟨S5x1, .i1⟩
  | .hbm, ⟨15, _⟩ => ⟨S1x1, .i32⟩
  | .hbm, ⟨16, _⟩ => ⟨S5x1, .i32⟩
  | .hbm, ⟨17, _⟩ => ⟨S5x1, .i1⟩
  | .hbm, ⟨18, _⟩ => ⟨S5x1, .i1⟩
  | .hbm, ⟨19, _⟩ => ⟨S_, .i1⟩
  | .hbm, ⟨20, _⟩ => ⟨S5, .i1⟩
  | .hbm, ⟨21, _⟩ => ⟨S5x1024, .f32⟩
  | .hbm, ⟨22, _⟩ => ⟨S5x1024, .i1⟩
  | .hbm, ⟨23, _⟩ => ⟨S_, .f32⟩
  | .hbm, ⟨24, _⟩ => ⟨S5x1024, .f32⟩
  | .hbm, ⟨25, _⟩ => ⟨S5x1024, .f32⟩
  | .hbm, ⟨26, _⟩ => ⟨S1x5x1024, .f32⟩
  | .hbm, ⟨27, _⟩ => ⟨S16384x5x1024, .f32⟩
  | .hbm, ⟨28, _⟩ => ⟨S16384x5x1024, .f32⟩
  | _, _ => ⟨S16384x5x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.Steps.lean ====
/- The kernel's body as a ring of forty steps: the memrefs of one step as functions of the chunk number, the step's
   program, and the equation between the printed body and the steps in a row. -/
module

public import proofs.«01_k».proof.Proof.Gen.KernelIdeal
public import proofs.«01_k».proof.Proof.Gen.KernelIdeal.Points
public import proofs.«01_k».proof.Proof.Gen.KernelIdeal.Launch
public import Idealize.ShloMosaic.Lib.Tactic

@[expose] public section

noncomputable section

namespace Cert.AddRows

open Idealize.ShloMosaic Idealize.SL.Sem
open Cert.KernelIdeal

variable {F : FTy → Type} [FloatOps F]

/-! ## Where chunk `k` lies

Chunk `k` is rows `k % 8 * 2048 …` of plane `k / 8` of the two big arrays, and slot `k % 3` of the two rings. The
offsets are taken modulo the axis so that they are in bounds at every natural number. -/

/-- A block of 2048 rows fits in the big arrays at chunk `k`'s offset. -/
theorem chunk_inb (k : ℕ) : ∀ a, (![k / 8 % 5, k % 8 * 2048, 0] : Fin 3 → ℕ) a + S1x2048x1024.size a ≤ S5x16384x1024.size a := by
  intro a
  fin_cases a
  · show k / 8 % 5 + 1 ≤ 5; omega
  · show k % 8 * 2048 + 2048 ≤ 16384; omega
  · show 0 + 1024 ≤ 1024; omega

/-- A slot fits in a ring of three. -/
theorem slot_inb (s : ℕ) : ∀ a, (![s % 3, 0, 0] : Fin 3 → ℕ) a + S1x2048x1024.size a ≤ S3x2048x1024.size a := by
  intro a
  fin_cases a
  · show s % 3 + 1 ≤ 3; omega
  · show 0 + 2048 ≤ 2048; omega
  · show 0 + 1024 ≤ 1024; omega

/-- A slot's semaphore is one of three. -/
theorem sem_inb (s : ℕ) : ∀ a, (![s % 3] : Fin 1 → ℕ) a + S1.size a ≤ S3.size a := by
  intro a
  fin_cases a
  show s % 3 + 1 ≤ 3; omega

/-- The row of the positions that chunk `k` takes is one of five. -/
theorem pos_inb (k : ℕ) : ∀ a, (![k / 8 % 5, 0] : Fin 2 → ℕ) a + S1x1024.size a ≤ S5x1024.size a := by
  intro a
  fin_cases a
  · show k / 8 % 5 + 1 ≤ 5; omega
  · show 0 + 1024 ≤ 1024; omega

/-- Chunk `k` of a big array. -/
abbrev chunkRect (k : ℕ) : Rect S5x16384x1024 := Rect.unit (s := S5x16384x1024) ![k / 8 % 5, k % 8 * 2048, 0] S1x2048x1024.size (chunk_inb k)
/-- Slot `s` of a ring. -/
abbrev slotRect (s : ℕ) : Rect S3x2048x1024 := Rect.unit (s := S3x2048x1024) ![s % 3, 0, 0] S1x2048x1024.size (slot_inb s)
/-- The row of the positions for chunk `k`. -/
abbrev posRect (k : ℕ) : Rect S5x1024 := Rect.unit (s := S5x1024) ![k / 8 % 5, 0] S1x1024.size (pos_inb k)

/-- Chunk `k` of the transposed input. -/
def inBlk (k : ℕ) : Memref sig .tc .hbm S2048x1024 .f32 :=
  ((Memref.whole main_v0).slice (chunkRect k) (fun _ => rfl)).squeeze S2048x1024 Gen.squeezes_S1x2048x1024_S2048x1024
/-- Chunk `k` of the kernel's result. -/
def outBlk (k : ℕ) : Memref sig .tc .hbm S2048x1024 .f32 :=
  ((Memref.whole main_v1).slice (chunkRect k) (fun _ => rfl)).squeeze S2048x1024 Gen.squeezes_S1x2048x1024_S2048x1024
/-- Slot `s` of the ring that the input arrives in. -/
def xSlot (s : ℕ) : Memref sig .tc .vmem S2048x1024 .f32 :=
  ((Memref.whole cc0_scratch1).slice (slotRect s) (fun _ => rfl)).squeeze S2048x1024 Gen.squeezes_S1x2048x1024_S2048x1024
/-- Slot `s` of the ring that the sums leave from. -/
def oSlot (s : ℕ) : Memref sig .tc .vmem S2048x1024 .f32 :=
  ((Memref.whole cc0_scratch2).slice (slotRect s) (fun _ => rfl)).squeeze S2048x1024 Gen.squeezes_S1x2048x1024_S2048x1024
/-- The semaphore of slot `s`'s arrivals. -/
def inSem (s : ℕ) : DmaSem sig :=
  ((cc0_scratch4.slice (Rect.unit (s := S3) ![s % 3] S1.size (sem_inb s))).squeeze S_ Gen.squeezes_S1_S_).sem
/-- The semaphore of slot `s`'s departures. -/
def outSem (s : ℕ) : DmaSem sig :=
  ((cc0_scratch5.slice (Rect.unit (s := S3) ![s % 3] S1.size (sem_inb s))).squeeze S_ Gen.squeezes_S1_S_).sem

/-! ## The program of a step -/

/-- A block plus a row of the positions, the row taken at every row of the block. -/
def sumBlk (x : Vec F S1x2048x1024 .f32) (e : Vec F S1x1024 .f32) : FVec F S1x2048x1024 .f32 :=
  shapeCast S1x2048x1024 (addf (shapeCast S2048x1024 x Gen.shapeCasts_S1x2048x1024_S2048x1024)
    (broadcastTo S2048x1024 e Gen.broadcasts_S1x1024_S2048x1024)) Gen.shapeCasts_S2048x1024_S1x2048x1024

/-- A program of the kernel. -/
abbrev KProg (F : FTy → Type) [FloatOps F] : Type 1 := Prog (TpuEff nD τ sig (Elt F) Λ₀ .tc) PUnit

/-- Chunk `k` of the input starts for slot `s`. -/
def startIn (s k : ℕ) : KProg F :=
  Prog.lift (.enqueueDma (inBlk k) (.here (xSlot s)) (.dma (inSem s)) ((View.wordExact_bits rfl).reshape _ _) ((View.wordExact_bits rfl).reshape _ _) ⟨Or.inl rfl, trivial⟩)
/-- The wait for chunk `k` of the input to be in slot `s`. -/
def waitIn (s k : ℕ) : KProg F :=
  Prog.lift (.waitDma2 (inSem s) (inBlk k) (xSlot s) ((View.wordExact_bits rfl).reshape _ _) ((View.wordExact_bits rfl).reshape _ _))
/-- Slot `s` starts for chunk `k` of the result. -/
def startOut (s k : ℕ) : KProg F :=
  Prog.lift (.enqueueDma (oSlot s) (.here (outBlk k)) (.dma (outSem s)) ((View.wordExact_bits rfl).reshape _ _) ((View.wordExact_bits rfl).reshape _ _) ⟨Or.inl rfl, trivial⟩)
/-- The wait for slot `s` to have gone to chunk `k` of the result. -/
def waitOut (s k : ℕ) : KProg F :=
  Prog.lift (.waitDma2 (outSem s) (oSlot s) (outBlk k) ((View.wordExact_bits rfl).reshape _ _) ((View.wordExact_bits rfl).reshape _ _))

/-- Slot `s` of the sums is computed from slot `s` of the input and the row of chunk `k`. -/
def compute (s k : ℕ) : KProg F := do
  let x ← Prog.lift (.load (Memref.whole cc0_scratch1) (slotRect s).toLoadRect (View.loadsAt_vmem Gen.h_S1x2048x1024))
  let e ← Prog.lift (.load (Memref.whole cc0_scratch0) (posRect k).toLoadRect (View.loadsAt_vmem Gen.h_S1x1024))
  let _ ← Prog.lift (.load (Memref.whole cc0_scratch2) (slotRect s).toLoadRect (View.loadsAt_vmem Gen.h_S1x2048x1024))
  Prog.lift (.store (Memref.whole cc0_scratch2) (slotRect s) (sumBlk x e) Finset.univ (View.stores_vmem_bits_univ Gen.h_S1x2048x1024 rfl) (.inl rfl))

/-- Before step `k` writes its sums: the wait for their slot, where it was used three steps before. -/
def freeSlot (k : ℕ) : KProg F := if 3 ≤ k then waitOut (k % 3) (k - 3) else pure ⟨⟩
/-- At the end of step `k`: the start of the chunk three further on, where there is one. -/
def refill (k : ℕ) : KProg F := if k + 3 < 40 then startIn (k % 3) (k + 3) else pure ⟨⟩

/-- Step `k`: the chunk has arrived and its slot of sums is free; the sums are computed and start for the result; the
    chunk three further on starts for the slot just read. -/
def step (k : ℕ) : KProg F := do
  waitIn (k % 3) k
  freeSlot k
  compute (k % 3) k
  startOut (k % 3) k
  refill k

/-- `n` steps from step `k`, and then `p`. -/
def stepsFrom (p : KProg F) : ℕ → ℕ → KProg F
  | 0, _ => p
  | n + 1, k => do step k; stepsFrom p n (k + 1)

/-- Before the first step: the positions are copied in, and the first three chunks are on their way. -/
def prologue : KProg F := do
  Prog.lift (.enqueueDma (Memref.whole main_arg1) (.here (Memref.whole cc0_scratch0)) (.dma cc0_scratch3.sem) (Memref.isWhole_whole _).wordExact (Memref.isWhole_whole _).wordExact ⟨Or.inl rfl, trivial⟩)
  startIn 0 0
  startIn 1 1
  startIn 2 2
  Prog.lift (.waitDma2 cc0_scratch3.sem (Memref.whole main_arg1) (Memref.whole cc0_scratch0) (Memref.isWhole_whole _).wordExact (Memref.isWhole_whole _).wordExact)

/-- After the last step: the last three chunks of the result have arrived. -/
def epilogue : KProg F := do
  waitOut 1 37
  waitOut 2 38
  waitOut 0 39

/-- The body as a ring. -/
def ringBody : KProg F := do
  prologue
  stepsFrom epilogue 40 0

theorem body_eq (t : Fin cfg0.N) : Gen.bodyAt0 (F := F) t = ringBody := by
  sl_kernel_rfl

end Cert.AddRows

end
-- ==== Proof.Blocks.lean ====
/- What one block holds: the elements of a block and of a slot, what a copy of a block leaves in a slot, and what a step
   stores and copies out, each as a function of the whole arrays. -/
module

public import proofs.«01_k».proof.Proof.Steps
public import Idealize.ShloMosaic.Lib.PointwiseCore

@[expose] public section

noncomputable section

namespace Cert.AddRows

open Idealize.ShloMosaic Idealize.SL.Sem
open Cert.KernelIdeal

variable {F : FTy → Type} [FloatOps F]

/-! ## The elements of the blocks -/

/-- The elements of chunk `k` of the transposed input. -/
theorem set_inBlk (k : ℕ) : (inBlk k).view.set = (chunkRect k).set :=
  (View.set_reshape _ _).trans (View.set_slice_whole _ _)
/-- The elements of chunk `k` of the result. -/
theorem set_outBlk (k : ℕ) : (outBlk k).view.set = (chunkRect k).set :=
  (View.set_reshape _ _).trans (View.set_slice_whole _ _)
/-- The elements of slot `s` of the input's ring. -/
theorem set_xSlot (s : ℕ) : (xSlot s).view.set = (slotRect s).set :=
  (View.set_reshape _ _).trans (View.set_slice_whole _ _)
/-- The elements of slot `s` of the sums' ring. -/
theorem set_oSlot (s : ℕ) : (oSlot s).view.set = (slotRect s).set :=
  (View.set_reshape _ _).trans (View.set_slice_whole _ _)

/-- The index within a block of an element of a ring: its slot dropped. -/
def inSlot (i : S3x2048x1024.Idx) : S1x2048x1024.Idx
  | 0 => (0 : Fin 1)
  | 1 => i 1
  | 2 => i 2

/-- An element of a slot, looked up within the block, is the index it was placed from. -/
theorem inSlot_emb (s : ℕ) (y : S1x2048x1024.Idx) : inSlot ((slotRect s).emb y) = y := by
  funext a
  match a with
  | 0 => exact Subsingleton.elim (α := Fin 1) _ _
  | 1 => exact Fin.ext (show 0 + 1 * (y 1).val = (y 1).val by omega)
  | 2 => exact Fin.ext (show 0 + 1 * (y 2).val = (y 2).val by omega)

/-! ## What the buffers hold -/

/-- Contents of the big arrays, of the positions and of the rings. -/
abbrev Big (F : FTy → Type) [FloatOps F] := S5x16384x1024.Idx → Elt F .f32
abbrev Pos (F : FTy → Type) [FloatOps F] := S5x1024.Idx → Elt F .f32
abbrev Ring (F : FTy → Type) [FloatOps F] := S3x2048x1024.Idx → Elt F .f32

/-- Chunk `k` of a big array. -/
def chunkOf (X : Big F) (k : ℕ) : Vec F S1x2048x1024 .f32 := fun y => X ((chunkRect k).emb y)
/-- The row of the positions for chunk `k`. -/
def rowOf (E : Pos F) (k : ℕ) : Vec F S1x1024 .f32 := fun z => E ((posRect k).emb z)

/-- A ring's slot holding a block. -/
def holding (w : Vec F S1x2048x1024 .f32) : Ring F := fun i => w (inSlot i)

/-- The input's slot once chunk `k` of `X` has arrived. -/
theorem arrived (X : Big F) (d : Ring F) (s k : ℕ) :
    ∀ i ∈ (xSlot s).view.set, (xSlot s).view.write (Elt F) d (ReadAs.same.apply ((inBlk k).view.read (Elt F) X)) Finset.univ i
      = holding (chunkOf X k) i := by
  intro i hi
  obtain ⟨x, -, rfl⟩ := Finset.mem_map.mp hi
  refine (View.write_emb_of_mem (v := (xSlot s).view) _ _ (Finset.mem_univ x)).trans ?_
  exact congrArg (chunkOf X k) (inSlot_emb s _).symm

/-- Chunk `k` of the result once the slot has arrived there: at each of its elements, what the slot held. -/
theorem departed (w : Vec F S1x2048x1024 .f32) (G d : Big F) (s k : ℕ) (hG : w = chunkOf G k) :
    ∀ i ∈ (outBlk k).view.set, (outBlk k).view.write (Elt F) d (ReadAs.same.apply ((oSlot s).view.read (Elt F) (holding w))) Finset.univ i
      = G i := by
  intro i hi
  obtain ⟨x, -, rfl⟩ := Finset.mem_map.mp hi
  refine (View.write_emb_of_mem (v := (outBlk k).view) _ _ (Finset.mem_univ x)).trans ?_
  exact (congrArg w (inSlot_emb s _)).trans (congrFun hG _)

/-- The block loaded from a slot of the input's ring. -/
theorem load_x (w : Vec F S1x2048x1024 .f32) (s : ℕ) :
    ((Memref.whole cc0_scratch1).access (slotRect s)).read (Elt F) (holding w) = w :=
  funext fun y => congrArg w (inSlot_emb s y)

/-- The row loaded from the positions. -/
theorem load_pos (E : Pos F) (k : ℕ) :
    ((Memref.whole cc0_scratch0).access (posRect k)).read (Elt F) E = rowOf E k := rfl

/-- The slot of the sums' ring that a block is stored into. -/
theorem stored (w : Vec F S1x2048x1024 .f32) (d : Ring F) (s : ℕ) :
    ∀ i ∈ (oSlot s).view.set, ((Memref.whole cc0_scratch2).access (slotRect s)).write (Elt F) d w Finset.univ i = holding w i := by
  intro i hi
  rw [set_oSlot, ← View.set_slice_whole cc0_scratch2 (slotRect s)] at hi
  obtain ⟨y, -, rfl⟩ := Finset.mem_map.mp hi
  refine (View.write_emb_of_mem (v := (Memref.whole cc0_scratch2).access (slotRect s)) _ _ (Finset.mem_univ y)).trans ?_
  exact (congrArg w (inSlot_emb s y)).symm

/-! ## The whole result -/

/-- Every plane of `X` plus its row of `E`. -/
def addRows (X : Big F) (E : Pos F) : Big F := fun i => FloatOps.addf (X i) (E fun | 0 => i 0 | 1 => i 2)

/-- A block of sums is the chunk of the whole result that it is stored for. -/
theorem sumBlk_eq (X : Big F) (E : Pos F) (k : ℕ) :
    sumBlk (chunkOf X k) (rowOf E k) = chunkOf (addRows X E) k := by
  funext y
  idx_vars y
  unfold sumBlk
  pointwise
  obtain rfl : y0 = 0 := Subsingleton.elim _ _
  refine congrArg (FloatOps.addf (chunkOf X k (ix3 0 y1 y2))) (congrArg E (funext fun a => ?_))
  match a with
  | 0 => rfl
  | 1 => rfl

end Cert.AddRows

end
-- ==== Proof.Triple.lean ====
/- What one step does: the assertions that name the state of the two rings before step `k`, and the triple that takes
   them from step `k` to step `k + 1`. -/
module

public import proofs.«01_k».proof.Proof.Blocks
public import Idealize.ShloMosaic.Lib.Transfers
public import Idealize.ShloMosaic.Lib.Pipeline.FrameSuffixV

@[expose] public section

noncomputable section

namespace Cert.AddRows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (Pipeline.UD sig nD τ) ℕ

variable (𝒱 : Variants) (c : Dev nD) (X : Big F) (E : Pos F)

/-! ## Pieces of the buffers -/

/-- Chunk `k` of the transposed input, at `X`. -/
def inAt (k : ℕ) : sProp 𝕄 := (inBlk k).view.loc (c : Thread nD τ) ↦[(inBlk k).view.set]{fullShare} X
/-- Chunk `k` of the result, at `G`. -/
def outAt (G : Big F) (k : ℕ) : sProp 𝕄 := (outBlk k).view.loc (c : Thread nD τ) ↦[(outBlk k).view.set]{fullShare} G
/-- Slot `s` of the input's ring, at `f`. -/
def xAt (f : Ring F) (s : ℕ) : sProp 𝕄 := (xSlot s).view.loc (c : Thread nD τ) ↦[(xSlot s).view.set]{fullShare} f
/-- Slot `s` of the sums' ring, at `f`. -/
def oAt (f : Ring F) (s : ℕ) : sProp 𝕄 := (oSlot s).view.loc (c : Thread nD τ) ↦[(oSlot s).view.set]{fullShare} f
/-- The positions, copied in. -/
def posAt : sProp 𝕄 := (Memref.whole cc0_scratch0).view.loc (c : Thread nD τ) ↦{fullShare} E
/-- A semaphore at zero. -/
def idle (sm : DmaSem sig) : sProp 𝕄 := semVal ((c : Thread nD τ), SemLoc.dma sm) 0
/-- The core owes nothing, its waits recorded somewhere. -/
def clear : sProp 𝕄 := iprop(∃ W, owes (c : Thread nD τ) 0 W)

/-! ## The transfers in flight -/

/-- Chunk `k` on its way into slot `s`: it will have arrived there, the input as it was. -/
def flyIn (s k : ℕ) : sProp 𝕄 :=
  Transfers.Flight (countersEmb (U := Pipeline.UD sig nD τ)) (c : Thread nD τ) (.dma (inSem s)) () ((xSlot s).view.amount (.dma (inSem s)))
    iprop(xAt c (holding (chunkOf X k)) s ∗ inAt c X k)
/-- Slot `s` on its way to chunk `k` of the result: the chunk will be at `G`, the slot some block. -/
def flyOut (G : Big F) (s k : ℕ) : sProp 𝕄 :=
  Transfers.Flight (countersEmb (U := Pipeline.UD sig nD τ)) (c : Thread nD τ) (.dma (outSem s)) () ((outBlk k).view.amount (.dma (outSem s)))
    iprop(outAt c G k ∗ oAt c (holding (chunkOf G k)) s)

/-- Starting chunk `k` for slot `s`. -/
theorem startIn_spec (s k : ℕ) (f : Ring F) (Q : PUnit → sProp 𝕄) :
    iprop(inAt c X k ∗ xAt c f s ∗ idle c (inSem s) ∗ (flyIn c X s k -∗ Q ⟨⟩))
      ⊢ wp frame (wpE defs₀ 𝒱 (c : Thread nD τ) none) Set.univ (startIn (F := F) s k) Q := by
  unfold startIn inAt xAt idle flyIn
  iintro ⟨Hx, Hd, Hs, Hk⟩
  iapply (Transfers.wp_dmaLocal (countersEmb (U := Pipeline.UD sig nD τ)) 𝒱 (c : Thread nD τ) none () _ rfl (View.dmaCredit_pos _ (by decide)) (Finset.Subset.refl _)) $$ [Hx Hd Hs]
  · isplitl [Hx]; · iexact Hx
    isplitl [Hd]; · iexact Hd
    iexact Hs
  iintro HF
  sl_step
  iapply Hk
  iapply (Transfers.Flight_mono (countersEmb (U := Pipeline.UD sig nD τ)) (c : Thread nD τ) (sep_mono_left (Entails.of_eq (pointsTo_congr (arrived X f s k))))) $$ HF

/-- The wait for chunk `k` to be in slot `s`. -/
theorem waitIn_spec (s k : ℕ) (Q : PUnit → sProp 𝕄) :
    iprop(flyIn c X s k ∗ clear c ∗ (xAt c (holding (chunkOf X k)) s -∗ inAt c X k -∗ idle c (inSem s) -∗ clear c -∗ Q ⟨⟩))
      ⊢ wp frame (wpE defs₀ 𝒱 (c : Thread nD τ) none) Set.univ (waitIn (F := F) s k) Q := by
  unfold waitIn flyIn clear idle
  iintro ⟨HF, ⟨%W, HO⟩, Hk⟩
  iapply (Transfers.wp_waitLocal (countersEmb (U := Pipeline.UD sig nD τ)) 𝒱 (c : Thread nD τ) none () rfl) $$ [HF HO]
  · isplitl [HF]; · iexact HF
    iexact HO
  iintro ⟨⟨Hx, Hi⟩, Hs, HO⟩
  sl_step
  iapply Hk $$ Hx Hi Hs
  iexists _; iexact HO

/-- Starting slot `s`, which holds chunk `k` of `G`, for chunk `k` of the result. -/
theorem startOut_spec (G d : Big F) (s k : ℕ) (Q : PUnit → sProp 𝕄) :
    iprop(oAt c (holding (chunkOf G k)) s ∗ outAt c d k ∗ idle c (outSem s) ∗ (flyOut c G s k -∗ Q ⟨⟩))
      ⊢ wp frame (wpE defs₀ 𝒱 (c : Thread nD τ) none) Set.univ (startOut (F := F) s k) Q := by
  unfold startOut outAt oAt idle flyOut
  iintro ⟨Hx, Hd, Hs, Hk⟩
  iapply (Transfers.wp_dmaLocal (countersEmb (U := Pipeline.UD sig nD τ)) 𝒱 (c : Thread nD τ) none () _ rfl (View.dmaCredit_pos _ (by decide)) (Finset.Subset.refl _)) $$ [Hx Hd Hs]
  · isplitl [Hx]; · iexact Hx
    isplitl [Hd]; · iexact Hd
    iexact Hs
  iintro HF
  sl_step
  iapply Hk
  iapply (Transfers.Flight_mono (countersEmb (U := Pipeline.UD sig nD τ)) (c : Thread nD τ) (sep_mono_left (Entails.of_eq (pointsTo_congr (departed (chunkOf G k) G d s k rfl))))) $$ HF

/-- The wait for slot `s` to have gone to chunk `k`. -/
theorem waitOut_spec (G : Big F) (s k : ℕ) (Q : PUnit → sProp 𝕄) :
    iprop(flyOut c G s k ∗ clear c ∗ (outAt c G k -∗ oAt c (holding (chunkOf G k)) s -∗ idle c (outSem s) -∗ clear c -∗ Q ⟨⟩))
      ⊢ wp frame (wpE defs₀ 𝒱 (c : Thread nD τ) none) Set.univ (waitOut (F := F) s k) Q := by
  unfold waitOut flyOut clear idle
  iintro ⟨HF, ⟨%W, HO⟩, Hk⟩
  iapply (Transfers.wp_waitLocal (countersEmb (U := Pipeline.UD sig nD τ)) 𝒱 (c : Thread nD τ) none () rfl) $$ [HF HO]
  · isplitl [HF]; · iexact HF
    iexact HO
  iintro ⟨⟨Hx, Hi⟩, Hs, HO⟩
  sl_step
  iapply Hk $$ Hx Hi Hs
  iexists _; iexact HO

/-! ## The computation -/

/-- A rectangle of a slot lies in the slot. -/
theorem access_x (s : ℕ) : ((Memref.whole cc0_scratch1).access (slotRect s)).set ⊆ (xSlot s).view.set := by
  rw [set_xSlot]; exact (View.set_slice_whole cc0_scratch1 (slotRect s)).le
theorem access_o (s : ℕ) : ((Memref.whole cc0_scratch2).access (slotRect s)).set ⊆ (oSlot s).view.set := by
  rw [set_oSlot]; exact (View.set_slice_whole cc0_scratch2 (slotRect s)).le

/-- A slot held, as an access through its rectangle sees it. -/
theorem xAt_eq (f : Ring F) (s : ℕ) : xAt c f s
    = (((Memref.whole cc0_scratch1).access (slotRect s)).loc (c : Thread nD τ) ↦[(xSlot s).view.set]{fullShare} f : sProp 𝕄) := rfl
theorem oAt_eq (f : Ring F) (s : ℕ) : oAt c f s
    = (((Memref.whole cc0_scratch2).access (slotRect s)).loc (c : Thread nD τ) ↦[(oSlot s).view.set]{fullShare} f : sProp 𝕄) := rfl
theorem posAt_eq (k : ℕ) : posAt c E
    = (((Memref.whole cc0_scratch0).access (posRect k)).loc (c : Thread nD τ) ↦{fullShare} E : sProp 𝕄) := rfl

/-- A slot of the sums, once stored into, holds the block. -/
theorem stored_at (w : Vec F S1x2048x1024 .f32) (f : Ring F) (s : ℕ) :
    (((Memref.whole cc0_scratch2).access (slotRect s)).loc (c : Thread nD τ) ↦[(oSlot s).view.set]{fullShare}
        (((Memref.whole cc0_scratch2).access (slotRect s)).write (Elt F) f w Finset.univ) : sProp 𝕄)
      = (((Memref.whole cc0_scratch2).access (slotRect s)).loc (c : Thread nD τ) ↦[(oSlot s).view.set]{fullShare} holding w) :=
  pointsTo_congr (stored w f s)

/-- The computation of step `k`: from chunk `k` of `X` in the input's slot, chunk `k` of the whole result in the slot of
    the sums. -/
theorem compute_spec (s k : ℕ) (f : Ring F) (Q : PUnit → sProp 𝕄) :
    iprop(xAt c (holding (chunkOf X k)) s ∗ posAt c E ∗ oAt c f s
        ∗ (xAt c (holding (chunkOf X k)) s -∗ posAt c E -∗ oAt c (holding (chunkOf (addRows X E) k)) s -∗ Q ⟨⟩))
      ⊢ wp frame (wpE defs₀ 𝒱 (c : Thread nD τ) none) Set.univ (compute (F := F) s k) Q := by
  simp only [compute, xAt_eq, oAt_eq, posAt_eq c E k]
  iintro ⟨Hx, He, Ho, Hk⟩
  iapply (wp_load_rect 𝒱 (c : Thread nD τ) none Set.univ (access_x s)) $$ Hx
  iintro Hx
  iapply (wp_load_rect 𝒱 (c : Thread nD τ) none Set.univ (Finset.subset_univ _)) $$ He
  iintro He
  iapply (wp_load_rect 𝒱 (c : Thread nD τ) none Set.univ (access_o s)) $$ Ho
  iintro Ho
  iapply (wp_store 𝒱 (c : Thread nD τ) none Set.univ (access_o s)) $$ Ho
  iintro Ho
  sl_step
  iapply Hk $$ Hx He
  rw [load_x, load_pos, sumBlk_eq]
  iapply (Entails.of_eq (stored_at c (chunkOf (addRows X E) k) f s)) $$ Ho

/-! ## A step -/

/-- The input's slot of step `j`: chunk `j` on its way there, or nothing once the chunks are all read. -/
def inSt (j : ℕ) : sProp 𝕄 := if j < 40 then flyIn c X (j % 3) j else iprop((∃ f, xAt c f (j % 3)) ∗ idle c (inSem (j % 3)))
/-- The sums' slot of step `j`: on its way to the chunk three back, or nothing before there is one. -/
def outSt (G : Big F) (j : ℕ) : sProp 𝕄 := if 3 ≤ j then flyOut c G (j % 3) (j - 3) else iprop((∃ f, oAt c f (j % 3)) ∗ idle c (outSem (j % 3)))
/-- A chunk of the result before its step: at any contents. -/
def outAny (k : ℕ) : sProp 𝕄 := iprop(∃ d, outAt c d k)
/-- The chunk of the input that step `k` starts, if there is one. -/
def nextIn (k : ℕ) : sProp 𝕄 := if k + 3 < 40 then inAt c X (k + 3) else iprop(emp)
/-- The chunk of the result that has arrived by step `k`, if there is one. -/
def lastOut (G : Big F) (k : ℕ) : sProp 𝕄 := if 3 ≤ k then outAt c G (k - 3) else iprop(emp)

/-- The sums' slot made free: the wait for it, if it is on its way. -/
theorem free_spec (G : Big F) (k : ℕ) (Q : PUnit → sProp 𝕄) :
    iprop(outSt c G k ∗ clear c ∗ (lastOut c G k -∗ (∃ f, oAt c f (k % 3)) -∗ idle c (outSem (k % 3)) -∗ clear c -∗ Q ⟨⟩))
      ⊢ wp frame (wpE defs₀ 𝒱 (c : Thread nD τ) none) Set.univ (freeSlot (F := F) k) Q := by
  unfold freeSlot outSt lastOut
  by_cases h : 3 ≤ k
  · simp only [if_pos h]
    iintro ⟨HF, HO, Hk⟩
    iapply (waitOut_spec 𝒱 c G (k % 3) (k - 3))
    isplitl [HF]; · iexact HF
    isplitl [HO]; · iexact HO
    iintro Ho Hs Hi HO
    iapply Hk $$ Ho [Hs] Hi HO
    iexists _; iexact Hs
  · simp only [if_neg h]
    iintro ⟨⟨Ho, Hi⟩, HO, Hk⟩
    sl_step
    iapply Hk $$ [] Ho Hi HO
    iempintro

/-- The input's slot filled again: the next chunk started for it, if there is one. -/
theorem refill_spec (f : Ring F) (k : ℕ) (Q : PUnit → sProp 𝕄) :
    iprop(nextIn c X k ∗ xAt c f (k % 3) ∗ idle c (inSem (k % 3)) ∗ (inSt c X (k + 3) -∗ Q ⟨⟩))
      ⊢ wp frame (wpE defs₀ 𝒱 (c : Thread nD τ) none) Set.univ (refill (F := F) k) Q := by
  unfold refill nextIn inSt
  rw [Nat.add_mod_right]
  by_cases h : k + 3 < 40
  · simp only [if_pos h]
    exact startIn_spec 𝒱 c X (k % 3) (k + 3) f Q
  · simp only [if_neg h]
    iintro ⟨-, Hx, Hi, Hk⟩
    sl_step
    iapply Hk
    isplitl [Hx]; · iexists _; iexact Hx
    iexact Hi

/-- Step `k`: chunk `k` of the input comes back, the chunk of the result three back is done, and the rings are those of
    step `k + 3`. -/
theorem step_spec (k : ℕ) (hk : k < 40) (Q : PUnit → sProp 𝕄) :
    iprop((inSt c X k ∗ outSt c (addRows X E) k ∗ nextIn c X k ∗ outAny c k ∗ posAt c E ∗ clear c)
        ∗ (inSt c X (k + 3) -∗ outSt c (addRows X E) (k + 3) -∗ inAt c X k -∗ lastOut c (addRows X E) k -∗ posAt c E -∗ clear c -∗ Q ⟨⟩))
      ⊢ wp frame (wpE defs₀ 𝒱 (c : Thread nD τ) none) Set.univ (step (F := F) k) Q := by
  rw [show inSt c X k = flyIn c X (k % 3) k from if_pos hk,
    show outSt c (addRows X E) (k + 3) = flyOut c (addRows X E) (k % 3) k by
      unfold outSt; rw [if_pos (Nat.le_add_left 3 k), Nat.add_mod_right, Nat.add_sub_cancel]]
  simp only [step, wp_bind]
  unfold outAny
  iintro ⟨⟨Hin, Hout, Hnext, ⟨%d, Hd⟩, Hpos, HO⟩, Hk⟩
  iapply (waitIn_spec 𝒱 c X (k % 3) k)
  isplitl [Hin]; · iexact Hin
  isplitl [HO]; · iexact HO
  iintro Hx Hhome Hxi HO
  iapply (free_spec 𝒱 c (addRows X E) k)
  isplitl [Hout]; · iexact Hout
  isplitl [HO]; · iexact HO
  iintro Hlast ⟨%f, Hslot⟩ Hoi HO
  iapply (compute_spec 𝒱 c X E (k % 3) k f)
  isplitl [Hx]; · iexact Hx
  isplitl [Hpos]; · iexact Hpos
  isplitl [Hslot]; · iexact Hslot
  iintro Hx Hpos Hslot
  iapply (startOut_spec 𝒱 c (addRows X E) d (k % 3) k)
  isplitl [Hslot]; · iexact Hslot
  isplitl [Hd]; · iexact Hd
  isplitl [Hoi]; · iexact Hoi
  iintro Hfly
  iapply (refill_spec 𝒱 c X _ k)
  isplitl [Hnext]; · iexact Hnext
  isplitl [Hx]; · iexact Hx
  isplitl [Hxi]; · iexact Hxi
  iintro Hin
  iapply Hk $$ Hin Hfly Hhome Hlast Hpos HO

end Cert.AddRows

end
-- ==== Proof.Cover.lean ====
/- The forty chunks cover each big array, and the three slots each ring, no element twice: so a buffer held whole is its
   pieces held one by one. -/
module

public import proofs.«01_k».proof.Proof.Triple

@[expose] public section

noncomputable section

namespace Cert.AddRows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (Pipeline.UD sig nD τ) ℕ

/-! ## The elements -/

/-- An element of a big array lies in chunk `k` exactly when its plane and its rows are the chunk's. -/
theorem mem_chunk (k : ℕ) (i : S5x16384x1024.Idx) :
    i ∈ (chunkRect k).set ↔ (i 0).val = k / 8 % 5 ∧ (i 1).val / 2048 = k % 8 := by
  have h2 : (i 2).val < 1024 := (i 2).isLt
  rw [Rect.mem_set_unit]
  constructor
  · intro h
    have a0 : k / 8 % 5 ≤ (i 0).val ∧ (i 0).val < k / 8 % 5 + 1 := h 0
    have a1 : k % 8 * 2048 ≤ (i 1).val ∧ (i 1).val < k % 8 * 2048 + 2048 := h 1
    omega
  · rintro ⟨h0, h1⟩ a
    match a with
    | 0 => exact show k / 8 % 5 ≤ (i 0).val ∧ (i 0).val < k / 8 % 5 + 1 by omega
    | 1 => exact show k % 8 * 2048 ≤ (i 1).val ∧ (i 1).val < k % 8 * 2048 + 2048 by omega
    | 2 => exact show 0 ≤ (i 2).val ∧ (i 2).val < 0 + 1024 by omega

/-- An element of a ring lies in slot `s` exactly when its first coordinate says so. -/
theorem mem_slot (s : ℕ) (i : S3x2048x1024.Idx) : i ∈ (slotRect s).set ↔ (i 0).val = s % 3 := by
  have h1 : (i 1).val < 2048 := (i 1).isLt
  have h2 : (i 2).val < 1024 := (i 2).isLt
  rw [Rect.mem_set_unit]
  constructor
  · intro h
    have a0 : s % 3 ≤ (i 0).val ∧ (i 0).val < s % 3 + 1 := h 0
    omega
  · intro h0 a
    match a with
    | 0 => exact show s % 3 ≤ (i 0).val ∧ (i 0).val < s % 3 + 1 by omega
    | 1 => exact show 0 ≤ (i 1).val ∧ (i 1).val < 0 + 2048 by omega
    | 2 => exact show 0 ≤ (i 2).val ∧ (i 2).val < 0 + 1024 by omega

/-- Two chunks share no element. -/
theorem chunk_disjoint : ∀ k ∈ Finset.range 40, ∀ k' ∈ Finset.range 40, k ≠ k' → Disjoint (chunkRect k).set (chunkRect k').set := by
  intro k hk k' hk' hne
  rw [Finset.mem_range] at hk hk'
  refine Finset.disjoint_left.mpr fun i h h' => hne ?_
  have := (mem_chunk k i).mp h
  have := (mem_chunk k' i).mp h'
  omega

/-- The chunks together are the whole array. -/
theorem chunk_cover : (Finset.range 40).biUnion (fun k => (chunkRect k).set) = Finset.univ := by
  refine Finset.eq_univ_of_forall fun i => Finset.mem_biUnion.mpr ⟨(i 0).val * 8 + (i 1).val / 2048, ?_, (mem_chunk _ i).mpr ?_⟩
  all_goals
    have h0 : (i 0).val < 5 := (i 0).isLt
    have h1 : (i 1).val < 16384 := (i 1).isLt
  · rw [Finset.mem_range]; omega
  · constructor <;> omega

/-- Two slots share no element. -/
theorem slot_disjoint : ∀ s ∈ Finset.range 3, ∀ s' ∈ Finset.range 3, s ≠ s' → Disjoint (slotRect s).set (slotRect s').set := by
  intro s hs s' hs' hne
  rw [Finset.mem_range] at hs hs'
  refine Finset.disjoint_left.mpr fun i h h' => hne ?_
  have := (mem_slot s i).mp h
  have := (mem_slot s' i).mp h'
  omega

/-- The slots together are the whole ring. -/
theorem slot_cover : (Finset.range 3).biUnion (fun s => (slotRect s).set) = Finset.univ := by
  refine Finset.eq_univ_of_forall fun i => Finset.mem_biUnion.mpr ⟨(i 0).val, ?_, (mem_slot _ i).mpr ?_⟩
  all_goals have h0 : (i 0).val < 3 := (i 0).isLt
  · rw [Finset.mem_range]; omega
  · omega

/-! ## The buffers -/

variable (c : Dev nD)

/-- A buffer held whole is the pieces of a partition of its elements. -/
theorem pieces {ℓ : Loc nD τ sig} (n : ℕ) (K : ℕ → Finset (Idx ℓ))
    (hd : ∀ k ∈ Finset.range n, ∀ k' ∈ Finset.range n, k ≠ k' → Disjoint (K k) (K k'))
    (hc : (Finset.range n).biUnion K = Finset.univ) (f : Buf (Elt F) ℓ) :
    ((ℓ ↦{fullShare} f) : sProp 𝕄) = bigSep (Finset.range n) fun k => (ℓ ↦[K k]{fullShare} f) := by
  rw [← pointsTo_biUnion _ _ hd, hc]

/-- The transposed input held whole is its chunks. -/
theorem in_chunks (X : Big F) :
    (((c : Thread nD τ).loc main_v0 ↦{fullShare} X) : sProp 𝕄) = bigSep (Finset.range 40) (inAt c X) :=
  (pieces (ℓ := (c : Thread nD τ).loc main_v0) 40 (fun k => (chunkRect k).set) chunk_disjoint chunk_cover X).trans
    (congrArg _ (funext fun k => congrArg (fun S => ((c : Thread nD τ).loc main_v0 ↦[S]{fullShare} X : sProp 𝕄)) (set_inBlk k).symm))

/-- The result held whole is its chunks. -/
theorem out_chunks (G : Big F) :
    (((c : Thread nD τ).loc main_v1 ↦{fullShare} G) : sProp 𝕄) = bigSep (Finset.range 40) (outAt c G) :=
  (pieces (ℓ := (c : Thread nD τ).loc main_v1) 40 (fun k => (chunkRect k).set) chunk_disjoint chunk_cover G).trans
    (congrArg _ (funext fun k => congrArg (fun S => ((c : Thread nD τ).loc main_v1 ↦[S]{fullShare} G : sProp 𝕄)) (set_outBlk k).symm))

/-- The input's ring held whole is its slots. -/
theorem x_slots (f : Ring F) :
    (((c : Thread nD τ).loc cc0_scratch1 ↦{fullShare} f) : sProp 𝕄) = bigSep (Finset.range 3) (xAt c f) :=
  (pieces (ℓ := (c : Thread nD τ).loc cc0_scratch1) 3 (fun s => (slotRect s).set) slot_disjoint slot_cover f).trans
    (congrArg _ (funext fun s => congrArg (fun S => ((c : Thread nD τ).loc cc0_scratch1 ↦[S]{fullShare} f : sProp 𝕄)) (set_xSlot s).symm))

/-- The sums' ring held whole is its slots. -/
theorem o_slots (f : Ring F) :
    (((c : Thread nD τ).loc cc0_scratch2 ↦{fullShare} f) : sProp 𝕄) = bigSep (Finset.range 3) (oAt c f) :=
  (pieces (ℓ := (c : Thread nD τ).loc cc0_scratch2) 3 (fun s => (slotRect s).set) slot_disjoint slot_cover f).trans
    (congrArg _ (funext fun s => congrArg (fun S => ((c : Thread nD τ).loc cc0_scratch2 ↦[S]{fullShare} f : sProp 𝕄)) (set_oSlot s).symm))

end Cert.AddRows

end
-- ==== Proof.Chain.lean ====
/- The whole body: the copy of the positions and the first three chunks, forty steps, the last three departures. From the
   operands and the result held whole it comes back with the result at the sums. -/
module

public import proofs.«01_k».proof.Proof.Cover
public import Idealize.SL.BI.BigOpNat

@[expose] public section

noncomputable section

namespace Cert.AddRows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]

local notation "𝕄" => MT nD τ sig Unit (Elt F) ℕ (Pipeline.UD sig nD τ) ℕ

/-! ## Runs of numbers -/

/-- The first of a run of numbers set apart. -/
theorem run_first {A : ℕ → sProp 𝕄} (k n : ℕ) (h : k < n) :
    bigSep (Finset.Ico k n) A = iprop(A k ∗ bigSep (Finset.Ico (k + 1) n) A) := by
  rw [show Finset.Ico k n = insert k (Finset.Ico (k + 1) n) by
    ext i; simp only [Finset.mem_Ico, Finset.mem_insert]; omega]
  exact bigSep_insert (by simp)

/-- Three pieces, one by one. -/
theorem run_three {A : ℕ → sProp 𝕄} : bigSep (Finset.range 3) A = iprop(A 0 ∗ A 1 ∗ A 2 ∗ emp) := by
  rw [Finset.range_eq_Ico, run_first 0 3 (by omega), run_first 1 3 (by omega), run_first 2 3 (by omega),
    Finset.Ico_self]
  rfl

/-- Three pieces that cover a buffer, each at contents of its own, are the buffer at something. -/
theorem join_slots (ℓ : Loc nD τ sig) (K : ℕ → Finset (Idx ℓ))
    (hd : ∀ k ∈ Finset.range 3, ∀ k' ∈ Finset.range 3, k ≠ k' → Disjoint (K k) (K k'))
    (hc : (Finset.range 3).biUnion K = Finset.univ) (f0 f1 f2 : Buf (Elt F) ℓ) :
    iprop((ℓ ↦[K 0]{fullShare} f0) ∗ (ℓ ↦[K 1]{fullShare} f1) ∗ (ℓ ↦[K 2]{fullShare} f2))
      ⊢ (iprop(∃ f, ℓ ↦{fullShare} f) : sProp 𝕄) := by
  have h := pointsTo_biUnion_join (q := fullShare) (Finset.range 3) K (fun | 0 => f0 | 1 => f1 | _ => f2) f0 hd
    (Ix := Unit) (Name := ℕ) (U := Pipeline.UD sig nD τ) (Lvl := ℕ)
  rw [hc, run_three] at h
  refine .trans ?_ (h.trans ?_)
  · iintro ⟨H0, H1, H2⟩
    isplitl [H0]; · iexact H0
    isplitl [H1]; · iexact H1
    isplitl [H2]; · iexact H2
    iempintro
  · iintro ⟨%g, -, H⟩
    iexists g; iexact H

variable (𝒱 : Variants) (c : Dev nD) (X : Big F) (E : Pos F)

/-! ## The steps -/

/-- Before step `k`: the chunks below `k` of the input are back and those from `k + 3` on wait to be started; the chunks
    of the result below `k - 3` are done and those from `k` on are at anything; the rest is with the rings. -/
def ringSt (k : ℕ) : sProp 𝕄 :=
  iprop((inSt c X k ∗ inSt c X (k + 1) ∗ inSt c X (k + 2))
    ∗ (outSt c (addRows X E) k ∗ outSt c (addRows X E) (k + 1) ∗ outSt c (addRows X E) (k + 2))
    ∗ bigSep (Finset.Ico (k + 3) 40) (inAt c X) ∗ bigSep (Finset.Ico k 40) (outAny c)
    ∗ bigSep (Finset.range k) (inAt c X) ∗ bigSep (Finset.range (k - 3)) (outAt c (addRows X E))
    ∗ posAt c E ∗ clear c)

/-- The chunk that step `k` starts is the first of those that wait. -/
theorem take_next (k : ℕ) :
    bigSep (Finset.Ico (k + 3) 40) (inAt c X) = iprop(nextIn c X k ∗ bigSep (Finset.Ico (k + 1 + 3) 40) (inAt c X)) := by
  unfold nextIn
  by_cases h : k + 3 < 40
  · rw [if_pos h]; exact run_first (k + 3) 40 h
  · rw [if_neg h, Finset.Ico_eq_empty (by omega), Finset.Ico_eq_empty (by omega), bigSep_empty]
    exact (equiv_iff.mp emp_sep).symm

/-- The chunk that has arrived by step `k` comes to those that are done. -/
theorem put_last (G : Big F) (k : ℕ) :
    iprop(lastOut c G k ∗ bigSep (Finset.range (k - 3)) (outAt c G)) ⊢ bigSep (Finset.range (k + 1 - 3)) (outAt c G) := by
  unfold lastOut
  by_cases h : 3 ≤ k
  · rw [if_pos h, show k + 1 - 3 = k - 3 + 1 by omega, bigSep_range_succ]
  · rw [if_neg h, show k + 1 - 3 = k - 3 by omega]
    iintro ⟨-, H⟩; iexact H

/-- `n` steps from step `k`, up to the last, and then `p`. -/
theorem steps_run (p : KProg F) (R : sProp 𝕄) (Q : PUnit → sProp 𝕄)
    (hp : iprop(ringSt c X E 40 ∗ R) ⊢ wp frame (wpE defs₀ 𝒱 (c : Thread nD τ) none) Set.univ p Q) :
    ∀ n k : ℕ, k + n = 40 →
      iprop(ringSt c X E k ∗ R) ⊢ wp frame (wpE defs₀ 𝒱 (c : Thread nD τ) none) Set.univ (stepsFrom p n k) Q
  | 0, k, h => by obtain rfl : k = 40 := by omega
                  exact hp
  | n + 1, k, h => by
    have ih := steps_run p R Q hp n (k + 1) (by omega)
    simp only [stepsFrom, wp_bind]
    refine .trans ?_ (step_spec 𝒱 c X E k (by omega) _)
    unfold ringSt at ih ⊢
    rw [take_next c X k, run_first k 40 (by omega)]
    rw [bigSep_range_succ] at ih
    iintro ⟨⟨⟨Hi, Hi1, Hi2⟩, ⟨Ho, Ho1, Ho2⟩, ⟨Hn, Hw⟩, ⟨Hd, Hds⟩, Hb, Hf, Hp, HO⟩, HR⟩
    isplitl [Hi Ho Hn Hd Hp HO]
    · isplitl [Hi]; · iexact Hi
      isplitl [Ho]; · iexact Ho
      isplitl [Hn]; · iexact Hn
      isplitl [Hd]; · iexact Hd
      isplitl [Hp]; · iexact Hp
      iexact HO
    iintro Hi Ho Hh Hl Hp HO
    iapply ih
    isplitr [HR]
    · isplitl [Hi Hi1 Hi2]
      · isplitl [Hi1]; · iexact Hi1
        isplitl [Hi2]; · iexact Hi2
        iexact Hi
      isplitl [Ho Ho1 Ho2]
      · isplitl [Ho1]; · iexact Ho1
        isplitl [Ho2]; · iexact Ho2
        iexact Ho
      isplitl [Hw]; · iexact Hw
      isplitl [Hds]; · iexact Hds
      isplitl [Hb Hh]
      · isplitl [Hh]; · iexact Hh
        iexact Hb
      isplitl [Hl Hf]
      · iapply (put_last c (addRows X E) k)
        isplitl [Hl]; · iexact Hl
        iexact Hf
      isplitl [Hp]; · iexact Hp
      iexact HO
    iexact HR

/-! ## Before and after them -/

/-- The positions as the kernel's operand. -/
def argAt : sProp 𝕄 := (Memref.whole main_arg1).view.loc (c : Thread nD τ) ↦{fullShare} E

/-- The positions copied in whole. -/
theorem copied (p : Pos F) :
    ((Memref.whole cc0_scratch0).view.loc (c : Thread nD τ) ↦[Finset.univ]{fullShare}
      ((Memref.whole cc0_scratch0).view.write (Elt F) p (ReadAs.same.apply ((Memref.whole main_arg1).view.read (Elt F) E)) Finset.univ) : sProp 𝕄)
      = posAt c E :=
  pointsTo_congr fun i _ => congrFun (View.write_whole_univ cc0_scratch0 p E) i

/-- The operand, as a transfer reads it. -/
theorem argAt_eq : argAt c E
    = ((Memref.whole main_arg1).view.loc (c : Thread nD τ) ↦[(Memref.whole main_arg1).view.set]{fullShare} E : sProp 𝕄) := by
  unfold argAt; rw [show (Memref.whole main_arg1).view.set = Finset.univ from View.set_whole main_arg1]

/-- The positions on their way. -/
def flyPos : sProp 𝕄 :=
  Transfers.Flight (countersEmb (U := Pipeline.UD sig nD τ)) (c : Thread nD τ) (.dma cc0_scratch3.sem) () ((Memref.whole cc0_scratch0).view.amount (.dma cc0_scratch3.sem))
    iprop(posAt c E ∗ argAt c E)

/-- The copy of the positions starts. -/
def startPos : KProg F :=
  Prog.lift (.enqueueDma (Memref.whole main_arg1) (.here (Memref.whole cc0_scratch0)) (.dma cc0_scratch3.sem) (Memref.isWhole_whole _).wordExact (Memref.isWhole_whole _).wordExact ⟨Or.inl rfl, trivial⟩)
/-- The wait for it. -/
def waitPos : KProg F :=
  Prog.lift (.waitDma2 cc0_scratch3.sem (Memref.whole main_arg1) (Memref.whole cc0_scratch0) (Memref.isWhole_whole _).wordExact (Memref.isWhole_whole _).wordExact)

theorem startPos_spec (p : Pos F) (Q : PUnit → sProp 𝕄) :
    iprop(argAt c E ∗ posAt c p ∗ idle c cc0_scratch3.sem ∗ (flyPos c E -∗ Q ⟨⟩))
      ⊢ wp frame (wpE defs₀ 𝒱 (c : Thread nD τ) none) Set.univ (startPos (F := F)) Q := by
  unfold startPos flyPos idle
  rw [argAt_eq, show posAt c p = ((Memref.whole cc0_scratch0).view.loc (c : Thread nD τ) ↦[Finset.univ]{fullShare} p : sProp 𝕄) from rfl]
  iintro ⟨Hx, Hd, Hs, Hk⟩
  iapply (Transfers.wp_dmaLocal (countersEmb (U := Pipeline.UD sig nD τ)) 𝒱 (c : Thread nD τ) none () _ rfl (View.dmaCredit_pos _ (by decide)) (Finset.subset_univ _)) $$ [Hx Hd Hs]
  · isplitl [Hx]; · iexact Hx
    isplitl [Hd]; · iexact Hd
    iexact Hs
  iintro HF
  sl_step
  iapply Hk
  iapply (Transfers.Flight_mono (countersEmb (U := Pipeline.UD sig nD τ)) (c : Thread nD τ) (sep_mono_left (Entails.of_eq (copied c E p)))) $$ HF

theorem waitPos_spec (Q : PUnit → sProp 𝕄) :
    iprop(flyPos c E ∗ clear c ∗ (posAt c E -∗ argAt c E -∗ idle c cc0_scratch3.sem -∗ clear c -∗ Q ⟨⟩))
      ⊢ wp frame (wpE defs₀ 𝒱 (c : Thread nD τ) none) Set.univ (waitPos (F := F)) Q := by
  unfold waitPos flyPos clear idle
  iintro ⟨HF, ⟨%W, HO⟩, Hk⟩
  iapply (Transfers.wp_waitLocal (countersEmb (U := Pipeline.UD sig nD τ)) 𝒱 (c : Thread nD τ) none () rfl) $$ [HF HO]
  · isplitl [HF]; · iexact HF
    iexact HO
  iintro ⟨⟨Hx, Hi⟩, Hs, HO⟩
  sl_step
  iapply Hk $$ Hx Hi Hs
  iexists _; iexact HO

/-- What runs before the first step: the positions are in, and the first three chunks on their way. -/
theorem prologue_spec (p : Pos F) (f : Ring F) (Q : PUnit → sProp 𝕄) :
    iprop((argAt c E ∗ posAt c p ∗ idle c cc0_scratch3.sem)
        ∗ (inAt c X 0 ∗ inAt c X 1 ∗ inAt c X 2) ∗ (xAt c f 0 ∗ xAt c f 1 ∗ xAt c f 2)
        ∗ (idle c (inSem 0) ∗ idle c (inSem 1) ∗ idle c (inSem 2)) ∗ clear c
        ∗ (argAt c E -∗ posAt c E -∗ idle c cc0_scratch3.sem -∗ flyIn c X 0 0 -∗ flyIn c X 1 1 -∗ flyIn c X 2 2 -∗ clear c -∗ Q ⟨⟩))
      ⊢ wp frame (wpE defs₀ 𝒱 (c : Thread nD τ) none) Set.univ (prologue (F := F)) Q := by
  rw [show prologue (F := F) = (do startPos; startIn 0 0; startIn 1 1; startIn 2 2; waitPos) from rfl]
  simp only [wp_bind]
  iintro ⟨⟨Ha, Hp, Hs⟩, ⟨Hi0, Hi1, Hi2⟩, ⟨Hx0, Hx1, Hx2⟩, ⟨Hm0, Hm1, Hm2⟩, HO, Hk⟩
  iapply (startPos_spec 𝒱 c E p)
  isplitl [Ha]; · iexact Ha
  isplitl [Hp]; · iexact Hp
  isplitl [Hs]; · iexact Hs
  iintro HF
  iapply (startIn_spec 𝒱 c X 0 0 f)
  isplitl [Hi0]; · iexact Hi0
  isplitl [Hx0]; · iexact Hx0
  isplitl [Hm0]; · iexact Hm0
  iintro H0
  iapply (startIn_spec 𝒱 c X 1 1 f)
  isplitl [Hi1]; · iexact Hi1
  isplitl [Hx1]; · iexact Hx1
  isplitl [Hm1]; · iexact Hm1
  iintro H1
  iapply (startIn_spec 𝒱 c X 2 2 f)
  isplitl [Hi2]; · iexact Hi2
  isplitl [Hx2]; · iexact Hx2
  isplitl [Hm2]; · iexact Hm2
  iintro H2
  iapply (waitPos_spec 𝒱 c E)
  isplitl [HF]; · iexact HF
  isplitl [HO]; · iexact HO
  iintro Hp Ha Hs HO
  iapply Hk $$ Ha Hp Hs H0 H1 H2 HO

/-- What runs after the last step: the last three chunks of the result are done, and every slot is free. -/
theorem epilogue_spec (G : Big F) (Q : PUnit → sProp 𝕄) :
    iprop((flyOut c G 1 37 ∗ flyOut c G 2 38 ∗ flyOut c G 0 39) ∗ clear c
        ∗ (iprop(outAt c G 37 ∗ outAt c G 38 ∗ outAt c G 39)
            -∗ iprop(oAt c (holding (chunkOf G 39)) 0 ∗ oAt c (holding (chunkOf G 37)) 1 ∗ oAt c (holding (chunkOf G 38)) 2)
            -∗ iprop(idle c (outSem 0) ∗ idle c (outSem 1) ∗ idle c (outSem 2)) -∗ clear c -∗ Q ⟨⟩))
      ⊢ wp frame (wpE defs₀ 𝒱 (c : Thread nD τ) none) Set.univ (epilogue (F := F)) Q := by
  simp only [epilogue, wp_bind]
  iintro ⟨⟨H1, H2, H0⟩, HO, Hk⟩
  iapply (waitOut_spec 𝒱 c G 1 37)
  isplitl [H1]; · iexact H1
  isplitl [HO]; · iexact HO
  iintro Ha1 Hs1 Hi1 HO
  iapply (waitOut_spec 𝒱 c G 2 38)
  isplitl [H2]; · iexact H2
  isplitl [HO]; · iexact HO
  iintro Ha2 Hs2 Hi2 HO
  iapply (waitOut_spec 𝒱 c G 0 39)
  isplitl [H0]; · iexact H0
  isplitl [HO]; · iexact HO
  iintro Ha0 Hs0 Hi0 HO
  iapply Hk $$ [Ha1 Ha2 Ha0] [Hs1 Hs2 Hs0] [Hi1 Hi2 Hi0] HO
  · isplitl [Ha1]; · iexact Ha1
    isplitl [Ha2]; · iexact Ha2
    iexact Ha0
  · isplitl [Hs0]; · iexact Hs0
    isplitl [Hs1]; · iexact Hs1
    iexact Hs2
  · isplitl [Hi0]; · iexact Hi0
    isplitl [Hi1]; · iexact Hi1
    iexact Hi2

/-! ## The body -/

/-- A ring's three slots, each at anything, are the ring at something. -/
theorem join_x : iprop((∃ f, xAt c f 0) ∗ (∃ f, xAt c f 1) ∗ (∃ f : Ring F, xAt c f 2))
    ⊢ (iprop(∃ f : Ring F, (c : Thread nD τ).loc cc0_scratch1 ↦{fullShare} f) : sProp 𝕄) := by
  iintro ⟨⟨%f0, H0⟩, ⟨%f1, H1⟩, ⟨%f2, H2⟩⟩
  have e : ∀ (f : Ring F) (s : ℕ), xAt c f s = ((c : Thread nD τ).loc cc0_scratch1 ↦[(slotRect s).set]{fullShare} f : sProp 𝕄) :=
    fun f s => congrArg (fun S => ((c : Thread nD τ).loc cc0_scratch1 ↦[S]{fullShare} f : sProp 𝕄)) (set_xSlot s)
  iapply (join_slots ((c : Thread nD τ).loc cc0_scratch1) (fun s => (slotRect s).set) slot_disjoint slot_cover f0 f1 f2)
  isplitl [H0]; · iapply (Entails.of_eq (e f0 0)) $$ H0
  isplitl [H1]; · iapply (Entails.of_eq (e f1 1)) $$ H1
  iapply (Entails.of_eq (e f2 2)) $$ H2

theorem join_o : iprop((∃ f, oAt c f 0) ∗ (∃ f, oAt c f 1) ∗ (∃ f : Ring F, oAt c f 2))
    ⊢ (iprop(∃ f : Ring F, (c : Thread nD τ).loc cc0_scratch2 ↦{fullShare} f) : sProp 𝕄) := by
  iintro ⟨⟨%f0, H0⟩, ⟨%f1, H1⟩, ⟨%f2, H2⟩⟩
  have e : ∀ (f : Ring F) (s : ℕ), oAt c f s = ((c : Thread nD τ).loc cc0_scratch2 ↦[(slotRect s).set]{fullShare} f : sProp 𝕄) :=
    fun f s => congrArg (fun S => ((c : Thread nD τ).loc cc0_scratch2 ↦[S]{fullShare} f : sProp 𝕄)) (set_oSlot s)
  iapply (join_slots ((c : Thread nD τ).loc cc0_scratch2) (fun s => (slotRect s).set) slot_disjoint slot_cover f0 f1 f2)
  isplitl [H0]; · iapply (Entails.of_eq (e f0 0)) $$ H0
  isplitl [H1]; · iapply (Entails.of_eq (e f1 1)) $$ H1
  iapply (Entails.of_eq (e f2 2)) $$ H2

/-- The chunks of the result before the first step: each at what it held. -/
theorem any_out (d : Big F) : bigSep (Finset.range 40) (outAt c d) ⊢ bigSep (Finset.Ico 0 40) (outAny c) := by
  rw [Finset.range_eq_Ico]
  refine bigSep_mono fun k _ => ?_
  show (outAt c d k : sProp 𝕄) ⊢ iprop(∃ d, outAt c d k)
  iintro H; iexists d; iexact H

/-- What the body takes besides the input and the result: the scratch at anything, every semaphore at zero. -/
def scratchAt : sProp 𝕄 :=
  iprop((∃ p, posAt c p) ∗ (∃ f : Ring F, (c : Thread nD τ).loc cc0_scratch1 ↦{fullShare} f)
    ∗ (∃ f : Ring F, (c : Thread nD τ).loc cc0_scratch2 ↦{fullShare} f) ∗ idle c cc0_scratch3.sem
    ∗ (idle c (inSem 0) ∗ idle c (inSem 1) ∗ idle c (inSem 2)) ∗ (idle c (outSem 0) ∗ idle c (outSem 1) ∗ idle c (outSem 2)))

/-- The last three departures, from the state after the last step. -/
theorem finish_spec (Q : PUnit → sProp 𝕄) :
    iprop(ringSt c X E 40 ∗ (argAt c E ∗ idle c cc0_scratch3.sem)
        ∗ (argAt c E -∗ bigSep (Finset.range 40) (inAt c X) -∗ bigSep (Finset.range 40) (outAt c (addRows X E))
            -∗ scratchAt c -∗ clear c -∗ Q ⟨⟩))
      ⊢ wp frame (wpE defs₀ 𝒱 (c : Thread nD τ) none) Set.univ (epilogue (F := F)) Q := by
  have i0 : inSt c X 40 = iprop((∃ f, xAt c f 1) ∗ idle c (inSem 1)) := rfl
  have i1 : inSt c X (40 + 1) = iprop((∃ f, xAt c f 2) ∗ idle c (inSem 2)) := rfl
  have i2 : inSt c X (40 + 2) = iprop((∃ f, xAt c f 0) ∗ idle c (inSem 0)) := rfl
  have o0 : outSt c (addRows X E) 40 = flyOut c (addRows X E) 1 37 := rfl
  have o1 : outSt c (addRows X E) (40 + 1) = flyOut c (addRows X E) 2 38 := rfl
  have o2 : outSt c (addRows X E) (40 + 2) = flyOut c (addRows X E) 0 39 := rfl
  have done : bigSep (Finset.range 40) (outAt c (addRows X E))
      = iprop(outAt c (addRows X E) 39 ∗ outAt c (addRows X E) 38 ∗ outAt c (addRows X E) 37
        ∗ bigSep (Finset.range (40 - 3)) (outAt c (addRows X E))) := by
    rw [bigSep_range_succ 39, bigSep_range_succ 38, bigSep_range_succ 37]
  unfold ringSt
  rw [i0, i1, i2, o0, o1, o2, done]
  iintro ⟨⟨⟨⟨Hx1, Hm1⟩, ⟨Hx2, Hm2⟩, ⟨Hx0, Hm0⟩⟩, Hfly, -, -, Hin, Hout, Hp, HO⟩, ⟨Ha, Hs⟩, Hk⟩
  iapply (epilogue_spec 𝒱 c (addRows X E))
  isplitl [Hfly]; · iexact Hfly
  isplitl [HO]; · iexact HO
  iintro ⟨H37, H38, H39⟩ ⟨Ho0, Ho1, Ho2⟩ Hom HO
  iapply Hk $$ Ha Hin [H37 H38 H39 Hout] [Hx0 Hx1 Hx2 Hm0 Hm1 Hm2 Hp Hs Ho0 Ho1 Ho2 Hom] HO
  · isplitl [H39]; · iexact H39
    isplitl [H38]; · iexact H38
    isplitl [H37]; · iexact H37
    iexact Hout
  · unfold scratchAt
    isplitl [Hp]; · iexists _; iexact Hp
    isplitl [Hx0 Hx1 Hx2]
    · iapply (join_x c)
      isplitl [Hx0]; · iexact Hx0
      isplitl [Hx1]; · iexact Hx1
      iexact Hx2
    isplitl [Ho0 Ho1 Ho2]
    · iapply (join_o c)
      isplitl [Ho0]; · iexists _; iexact Ho0
      isplitl [Ho1]; · iexists _; iexact Ho1
      iexists _; iexact Ho2
    isplitl [Hs]; · iexact Hs
    isplitl [Hm0 Hm1 Hm2]
    · isplitl [Hm0]; · iexact Hm0
      isplitl [Hm1]; · iexact Hm1
      iexact Hm2
    iexact Hom

/-- The state before the first step. -/
theorem start_st (d : Big F) :
    iprop((flyIn c X 0 0 ∗ flyIn c X 1 1 ∗ flyIn c X 2 2)
        ∗ (((∃ f, oAt c f 0) ∗ idle c (outSem 0)) ∗ ((∃ f, oAt c f 1) ∗ idle c (outSem 1)) ∗ ((∃ f, oAt c f 2) ∗ idle c (outSem 2)))
        ∗ bigSep (Finset.Ico 3 40) (inAt c X) ∗ bigSep (Finset.range 40) (outAt c d) ∗ posAt c E ∗ clear c)
      ⊢ ringSt c X E 0 := by
  unfold ringSt
  iintro ⟨Hi, Ho, Hw, Hd, Hp, HO⟩
  isplitl [Hi]; · iexact Hi
  isplitl [Ho]; · iexact Ho
  isplitl [Hw]; · iexact Hw
  isplitl [Hd]; · iapply (any_out c d); iexact Hd
  isplitr; · iempintro
  isplitr; · iempintro
  isplitl [Hp]; · iexact Hp
  iexact HO

/-- The chunks of the input, the first three apart. -/
theorem first_chunks : bigSep (Finset.range 40) (inAt c X)
    = iprop(inAt c X 0 ∗ inAt c X 1 ∗ inAt c X 2 ∗ bigSep (Finset.Ico 3 40) (inAt c X)) := by
  rw [Finset.range_eq_Ico, run_first 0 40 (by omega), run_first 1 40 (by omega), run_first 2 40 (by omega)]

/-- A ring held whole, slot by slot. -/
theorem x_three (f : Ring F) : (((c : Thread nD τ).loc cc0_scratch1 ↦{fullShare} f) : sProp 𝕄)
    = iprop(xAt c f 0 ∗ xAt c f 1 ∗ xAt c f 2 ∗ emp) := (x_slots c f).trans run_three
theorem o_three (f : Ring F) : (((c : Thread nD τ).loc cc0_scratch2 ↦{fullShare} f) : sProp 𝕄)
    = iprop(oAt c f 0 ∗ oAt c f 1 ∗ oAt c f 2 ∗ emp) := (o_slots c f).trans run_three

/-- The body leaves the sums in the result, and everything else as it was. -/
theorem body_spec (d : Big F) (Q : PUnit → sProp 𝕄) :
    iprop((argAt c E ∗ ((c : Thread nD τ).loc main_v0 ↦{fullShare} X)
          ∗ ((c : Thread nD τ).loc main_v1 ↦{fullShare} d) ∗ scratchAt c ∗ clear c)
        ∗ (argAt c E -∗ ((c : Thread nD τ).loc main_v0 ↦{fullShare} X)
          -∗ ((c : Thread nD τ).loc main_v1 ↦{fullShare} addRows X E) -∗ scratchAt c -∗ clear c -∗ Q ⟨⟩))
      ⊢ wp frame (wpE defs₀ 𝒱 (c : Thread nD τ) none) Set.univ (ringBody (F := F)) Q := by
  simp only [ringBody, wp_bind]
  rw [out_chunks c (addRows X E), out_chunks c d, in_chunks c X]
  iintro ⟨⟨Ha, Hin, Hd, Hsc, HO⟩, Hk⟩
  ihave Hin' := (Entails.of_eq (first_chunks c X)) $$ Hin
  icases Hin' with ⟨Hi0, Hi1, Hi2, Hw⟩
  ihave Hsc' := (Entails.of_eq (show scratchAt c = _ by unfold scratchAt; rfl)) $$ Hsc
  icases Hsc' with ⟨⟨%p, Hp⟩, ⟨%f, Hx⟩, ⟨%g, Ho⟩, Hs, Him, ⟨Hm0, Hm1, Hm2⟩⟩
  ihave Hx' := (Entails.of_eq (x_three c f)) $$ Hx
  ihave Ho' := (Entails.of_eq (o_three c g)) $$ Ho
  icases Hx' with ⟨Hx0, Hx1, Hx2, -⟩
  icases Ho' with ⟨Ho0, Ho1, Ho2, -⟩
  iapply (prologue_spec 𝒱 c X E p f)
  isplitl [Ha Hp Hs]
  · isplitl [Ha]; · iexact Ha
    isplitl [Hp]; · iexact Hp
    iexact Hs
  isplitl [Hi0 Hi1 Hi2]
  · isplitl [Hi0]; · iexact Hi0
    isplitl [Hi1]; · iexact Hi1
    iexact Hi2
  isplitl [Hx0 Hx1 Hx2]
  · isplitl [Hx0]; · iexact Hx0
    isplitl [Hx1]; · iexact Hx1
    iexact Hx2
  isplitl [Him]; · iexact Him
  isplitl [HO]; · iexact HO
  iintro Ha Hp Hs H0 H1 H2 HO
  iapply (steps_run 𝒱 c X E epilogue _ Q (finish_spec 𝒱 c X E Q) 40 0 rfl)
  isplitr [Ha Hs Hk]
  · iapply (start_st c X E d)
    isplitl [H0 H1 H2]
    · isplitl [H0]; · iexact H0
      isplitl [H1]; · iexact H1
      iexact H2
    isplitl [Ho0 Ho1 Ho2 Hm0 Hm1 Hm2]
    · isplitl [Ho0 Hm0]
      · isplitl [Ho0]; · iexists _; iexact Ho0
        iexact Hm0
      isplitl [Ho1 Hm1]
      · isplitl [Ho1]; · iexists _; iexact Ho1
        iexact Hm1
      isplitl [Ho2]; · iexists _; iexact Ho2
      iexact Hm2
    isplitl [Hw]; · iexact Hw
    isplitl [Hd]; · iexact Hd
    isplitl [Hp]; · iexact Hp
    iexact HO
  isplitl [Ha Hs]
  · isplitl [Ha]; · iexact Ha
    iexact Hs
  iexact Hk

end Cert.AddRows

end
-- ==== Proof.Launch.lean ====
/- The launch: the operand transposed, the body run once over the whole array, the result transposed back. What @main
   leaves in its result and its arguments, at any reading of the floats. -/
module

public import proofs.«01_k».proof.Proof.Chain
public import proofs.«01_k».proof.Proof.Gen.KernelIdeal.Frame

@[expose] public section

noncomputable section

namespace Cert.AddRows

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat ΦDRV)

variable {F : FTy → Type} [FloatOps F]

local notation "𝕄" => MT nD τ sig Unit (Elt F) ℕ (Pipeline.UD sig nD τ) ℕ

/-- The kernel makes no call, so it needs no variants. -/
abbrev 𝒱₀ : Variants := Variants.none

/-- The kernel's own semaphores: the positions', the arrivals', the departures'. -/
def ownSem : Fin 7 → SemLoc sig := fun k => .dma k

theorem ownSem_facts : Pipeline.OwnSemFacts cfg0.spec ownSem := by decide

variable (m : (ℓ : Loc nD τ sig) → Buf (Elt F) ℓ) (ρ : Dev nD → PrngReg)

/-- The transposed input when the body starts. -/
abbrev bigIn (c : Dev nD) : Big F := V m c main_v0
/-- The positions when the body starts. -/
abbrev posIn (c : Dev nD) : Pos F := V m c main_arg1

/-- The buffers that the body reads where they are. -/
def readRefs : Finset (Ref sig .tc) := {main_arg1, main_v0}
/-- The buffer that it writes. -/
def writtenRefs : Finset (Ref sig .tc) := {main_v1}

/-- What the written buffer holds after the body. -/
def left (c : Dev nD) : (b : Ref sig .tc) → Buf (Elt F) ((c : Thread nD τ).loc b) :=
  Function.update (V m c) main_v1 (addRows (bigIn m c) (posIn m c))

/-- The body's invariant: before the point everything as launched, after it the result at the sums. -/
def dats : (p : Fin 1) → (c : Dev nD) → Dat τ (Elt F) Unit ℕ (Pipeline.UD sig nD τ) ℕ (cfgs p) c := fun _ c =>
  { A := fun w => w.elim0
    after := fun w => w.elim0
    Φ := fun t => ΦDRV ownSem cfg0.spec readRefs writtenRefs (V m) (if t = 0 then V m else left m) c
    q := fun w => w.elim0
    owed := fun _ => 0 }

/-- The seven semaphores at zero. -/
theorem sems_eq (c : Dev nD) : Pipeline.ownSems0 (Ix := Unit) (Name := ℕ) (U := Pipeline.UD sig nD τ) (Lvl := ℕ) (Val := Elt F) (τ := τ) ownSem c
    = (iprop(idle c cc0_scratch3.sem ∗ idle c (inSem 0) ∗ idle c (inSem 1) ∗ idle c (inSem 2)
      ∗ idle c (outSem 0) ∗ idle c (outSem 1) ∗ idle c (outSem 2)) : sProp 𝕄) := by
  unfold Pipeline.ownSems0
  rw [bigSep_eq_bigSepL_of_eq [0, 1, 2, 3, 4, 5, 6] (by decide) (by decide)]
  rfl

/-- The invariant, buffer by buffer. -/
theorem inv_eq (c : Dev nD) (G : (c : Dev nD) → (b : Ref sig .tc) → Buf (Elt F) ((c : Thread nD τ).loc b)) :
    (ΦDRV ownSem cfg0.spec readRefs writtenRefs (V m) G c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f))
        ∗ (idle c cc0_scratch3.sem ∗ idle c (inSem 0) ∗ idle c (inSem 1) ∗ idle c (inSem 2)
          ∗ idle c (outSem 0) ∗ idle c (outSem 1) ∗ idle c (outSem 2))
        ∗ (((c : Thread nD τ).loc main_arg1 ↦{fullShare} V m c main_arg1) ∗ ((c : Thread nD τ).loc main_v0 ↦{fullShare} V m c main_v0))
        ∗ ((c : Thread nD τ).loc main_v1 ↦{fullShare} G c main_v1)) := by
  unfold ΦDRV
  rw [sems_eq, scopedRest0_eq, bigSep_eq_bigSepL_of_eq (S := readRefs) [main_arg1, main_v0] (by decide) (by decide),
    show writtenRefs = {main_v1} from rfl, bigSep_singleton]
  rfl

/-- The same with the scratch and the semaphores as the body takes them. -/
theorem inv_split (c : Dev nD) (G : (c : Dev nD) → (b : Ref sig .tc) → Buf (Elt F) ((c : Thread nD τ).loc b)) :
    (ΦDRV ownSem cfg0.spec readRefs writtenRefs (V m) G c : sProp 𝕄)
      ⊢ iprop(argAt c (posIn m c) ∗ ((c : Thread nD τ).loc main_v0 ↦{fullShare} bigIn m c)
        ∗ ((c : Thread nD τ).loc main_v1 ↦{fullShare} G c main_v1) ∗ scratchAt c) := by
  rw [inv_eq]
  unfold scratchAt argAt posAt
  iintro ⟨⟨H0, H1, H2⟩, ⟨Hs, Hi0, Hi1, Hi2, Ho0, Ho1, Ho2⟩, ⟨Ha, Hx⟩, Hd⟩
  isplitl [Ha]; · iexact Ha
  isplitl [Hx]; · iexact Hx
  isplitl [Hd]; · iexact Hd
  isplitl [H0]; · iexact H0
  isplitl [H1]; · iexact H1
  isplitl [H2]; · iexact H2
  isplitl [Hs]; · iexact Hs
  isplitl [Hi0 Hi1 Hi2]
  · isplitl [Hi0]; · iexact Hi0
    isplitl [Hi1]; · iexact Hi1
    iexact Hi2
  isplitl [Ho0]; · iexact Ho0
  isplitl [Ho1]; · iexact Ho1
  iexact Ho2

theorem inv_join (c : Dev nD) (G : (c : Dev nD) → (b : Ref sig .tc) → Buf (Elt F) ((c : Thread nD τ).loc b)) :
    iprop(argAt c (posIn m c) ∗ ((c : Thread nD τ).loc main_v0 ↦{fullShare} bigIn m c)
        ∗ ((c : Thread nD τ).loc main_v1 ↦{fullShare} G c main_v1) ∗ scratchAt c)
      ⊢ (ΦDRV ownSem cfg0.spec readRefs writtenRefs (V m) G c : sProp 𝕄) := by
  rw [inv_eq]
  unfold scratchAt argAt posAt
  iintro ⟨Ha, Hx, Hd, H0, H1, H2, Hs, ⟨Hi0, Hi1, Hi2⟩, ⟨Ho0, Ho1, Ho2⟩⟩
  isplitl [H0 H1 H2]
  · isplitl [H0]; · iexact H0
    isplitl [H1]; · iexact H1
    iexact H2
  isplitl [Hs Hi0 Hi1 Hi2 Ho0 Ho1 Ho2]
  · isplitl [Hs]; · iexact Hs
    isplitl [Hi0]; · iexact Hi0
    isplitl [Hi1]; · iexact Hi1
    isplitl [Hi2]; · iexact Hi2
    isplitl [Ho0]; · iexact Ho0
    isplitl [Ho1]; · iexact Ho1
    iexact Ho2
  isplitl [Ha Hx]
  · isplitl [Ha]; · iexact Ha
    iexact Hx
  iexact Hd

/-- The body table's entry is the ring. -/
theorem row_eq (t : Fin cfg0.N) : defs₀ (F := F) .tc cfg0.body (cfg0.bodyArgs t (cfg0.slots t)) = ringBody (F := F) := by
  unfold defs₀
  rw [Defs.onTc_tc]
  exact body_eq t

/-- What the core owes before the body and after it: nothing. -/
theorem owes_in (c : Dev nD) (t : Fin (cfg0.N + 1)) : ((dats m 0 c).owesAt () t : sProp 𝕄) ⊢ clear c := by
  unfold Dat.owesAt Pipeline.owesWithin clear
  iintro ⟨%W, -, HO⟩
  iexists W; iexact HO

theorem owes_out (c : Dev nD) (t : Fin (cfg0.N + 1)) : (clear c : sProp 𝕄) ⊢ (dats m 0 c).owesAt () t := by
  unfold Dat.owesAt Pipeline.owesWithin clear
  iintro ⟨%W, HO⟩
  iexists W
  isplitr; · ipureintro; exact fun _ _ => Or.inl trivial
  iexact HO

/-- The result at the end of the body. -/
theorem left_v1 (c : Dev nD) : left m c main_v1 = addRows (bigIn m c) (posIn m c) := Function.update_self ..

/-- The body takes the invariant over its one point. -/
theorem body_ok (c : Dev nD) : Pipeline.BodyObligationLoose (dats m 0 c) defs₀ 𝒱₀ () Set.univ := by
  intro t
  obtain rfl := fin_N0 t
  rw [row_eq, show (Finset.univ : Finset (Fin (cfgs 0).W)) = ∅ from rfl, bigSep_empty, bigSep_empty,
    show (dats m 0 c).Φ t0_0.castSucc = ΦDRV ownSem cfg0.spec readRefs writtenRefs (V m) (V m) c from rfl,
    show (dats m 0 c).Φ t0_0.succ = ΦDRV ownSem cfg0.spec readRefs writtenRefs (V m) (left m) c from rfl]
  iintro ⟨HΦ, HO, -⟩
  ihave H := (inv_split m c (V m)) $$ HΦ
  icases H with ⟨Ha, Hx, Hd, Hs⟩
  iapply (body_spec 𝒱₀ c (bigIn m c) (posIn m c) (V m c main_v1))
  isplitl [Ha Hx Hd Hs HO]
  · isplitl [Ha]; · iexact Ha
    isplitl [Hx]; · iexact Hx
    isplitl [Hd]; · iexact Hd
    isplitl [Hs]; · iexact Hs
    iapply (owes_in m c _); iexact HO
  iintro Ha Hx Hd Hs HO
  isplitr [HO]
  · iapply (inv_join m c (left m))
    isplitl [Ha]; · iexact Ha
    isplitl [Hx]; · iexact Hx
    isplitl [Hd]; · irw [left_v1]; iexact Hd
    iexact Hs
  isplitl [HO]; · iapply (owes_out m c _); iexact HO
  iempintro

/-! ## The run -/

/-- An array with its positions first. -/
def planes (A : Vec F S16384x5x1024 .f32) : Big F := transpose S5x16384x1024 [1, 0, 2] A transposes_S16384x5x1024_S5x16384x1024_1_0_2
/-- An array with its batch first again. -/
def batches (G : Big F) : Vec F S16384x5x1024 .f32 := transpose S16384x5x1024 [1, 0, 2] G transposes_S5x16384x1024_S16384x5x1024_1_0_2

/-- @main around the region. -/
theorem main_around : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The transposed input is the transpose of the argument. -/
theorem bigIn_eq (c : Dev nD) : bigIn m c = planes (m ((c : Thread nD τ).loc main_arg0)) := by
  unfold bigIn V V0
  simp only [hostOps0, List.flatten_cons, List.flatten_nil, List.append_nil, StableHlo.after_cons, StableHlo.after_nil]
  exact StableHlo.unary_result' ..

/-- What the lines after the region leave in a buffer. -/
def atEnd (c : Dev nD) (b : Ref sig .tc) : Buf (Elt F) ((c : Thread nD τ).loc b) :=
  StableHlo.after (List.flatten [hostOps1]) (Pipeline.withArrays cfg0.spec c (Pipeline.withR (V0 m c) writtenRefs c (left m c))
    fun w => (dats m 0 c).arrAt w cfg0.N) (Proc.devRef .tc b)

/-- A buffer that neither the body nor the lines after it write. -/
theorem atEnd_of_ne (c : Dev nD) (b : Ref sig .tc) (h1 : b ≠ main_v1) (h2 : b ≠ main_v2) : atEnd m c b = V m c b := by
  unfold atEnd
  simp only [hostOps1, List.flatten_cons, List.flatten_nil, List.append_nil, StableHlo.after_cons, StableHlo.after_nil]
  rw [StableHlo.unary_result_ne (h := h2), Pipeline.withArrays_of_ne (hb := fun w => w.elim0),
    Pipeline.withR_of_not_mem (hb := by simpa [writtenRefs] using h1)]

/-- The result is the sums with the batch first. -/
theorem atEnd_result (c : Dev nD) : atEnd m c main_v2 = batches (addRows (bigIn m c) (posIn m c)) := by
  unfold atEnd
  simp only [hostOps1, List.flatten_cons, List.flatten_nil, List.append_nil, StableHlo.after_cons, StableHlo.after_nil]
  rw [StableHlo.unary_result', Pipeline.withArrays_of_ne (hb := fun w => w.elim0), Pipeline.withR_of_mem (hb := by decide), left_v1]
  rfl

/-- Every run of the kernel ends with the sums in its result, its arguments as they were and every semaphore at zero. -/
theorem run : θ_run defs (onTc (τ := τ) (main (F := F))) ⟨m, fun _ => 0, ρ⟩ (fun r =>
    (∀ c : Dev nD, r.2.mem ((c : Thread nD τ).loc main_v2)
        = batches (addRows (planes (m ((c : Thread nD τ).loc main_arg0))) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) := by
  refine Pipeline.θ_run_frame_dmaR_aroundV cfgs (dats m) 0 launch0 ownSem defs₀ 𝒱₀ ownSem_facts readRefs writtenRefs
    (by decide) (by decide) m ρ main (body_ok m) (fun c w => w.elim0) (fun c t => rfl) (V0 m) [hostOps1] sfx_sub sfx_fresh sfx_keeps
    (left m) (main_around m) (fun c w => w.elim0) (fun c => ?_) (fun c => ?_) _ ?_
  · exact Entails.refl _
  · exact Entails.refl _
  · rintro r ⟨h, hz⟩
    have hb : ∀ (c : Dev nD) (b : Ref sig .tc), b.isScoped = false → r.2.mem ((c : Thread nD τ).loc b) = atEnd m c b :=
      fun c b hs => (h c).2 b (Pipeline.mem_restRefs_of b hs fun w => w.elim0)
    refine ⟨fun c => ⟨?_, ?_, ?_⟩, hz⟩
    · rw [hb c main_v2 rfl, atEnd_result, bigIn_eq, show posIn m c = m ((c : Thread nD τ).loc main_arg1) from V_main_arg1 m c]
    · rw [hb c main_arg0 rfl, atEnd_of_ne m c main_arg0 (by decide) (by decide)]; exact V_main_arg0 m c
    · rw [hb c main_arg1 rfl, atEnd_of_ne m c main_arg1 (by decide) (by decide)]; exact V_main_arg1 m c

end Cert.AddRows

end
-- ==== Proof.Bits.lean ====
/- The kernel's own program, as printed before it is read at exact numbers: the two printed texts are one program, so what
   is proved of runs of the one holds of runs of the other. -/
module

public import proofs.«01_k».proof.Proof.Launch
public import proofs.«01_k».proof.Proof.Gen.Kernel
public import proofs.«01_k».proof.Defs

@[expose] public section

noncomputable section

namespace Cert.AddRows

open Idealize.ShloMosaic Idealize.ShloMosaic.TcCoe
open Idealize.SL.Sem

/-- Runs of the kernel that leave its arguments as they were and every semaphore at zero, as its own program has them. -/
def OwnRuns : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r =>
      (∀ c : Dev Cert.Kernel.nD, r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
      ∧ r.2.sem = fun _ => 0)

/-- The same of the program as it is printed for exact numbers, at any reading of the floats. -/
def IdealRuns (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0)

/-- The kernel ends with its arguments as they were and every semaphore at zero. -/
theorem ideal_runs (F : FTy → Type) [FloatOps F] : IdealRuns F := fun m g =>
  (θ_run _ _ _).mono (fun _ h => ⟨fun c => (h.1 c).2, h.2⟩) (run m g)

/-- The two texts are one program. -/
theorem same_runs : OwnRuns = IdealRuns Bits := by sl_kernel_rfl

/-- So the kernel's own program ends with its arguments as they were and every semaphore at zero. -/
theorem own_runs : OwnRuns := by rw [same_runs]; exact ideal_runs Bits

end Cert.AddRows

end
-- ==== Proof.Reference.lean ====
/- What the reference computes: the positions it looks up are `0 … 4`, each in range, so the table it takes is the table of
   embeddings itself, and its result is the patches plus that table. -/
module

public import proofs.«01_k».proof.Proof.Gen.ReferenceIdeal.Run
public import Idealize.ShloMosaic.Lib.PointwiseCore
public import Idealize.ShloMosaic.Lib.Quiescent
public import Idealize.ShloMosaic.Lib.ReduceAll
public import Idealize.ShloMosaic.Lib.Routing.Ops

@[expose] public section

noncomputable section

namespace Cert.AddRows.Ref

open Idealize.ShloMosaic Idealize.ShloMosaic.TcCoe Idealize.SL.Sem
open Cert.ReferenceIdeal Cert.ReferenceIdeal.Gen

variable {F : FTy → Type} [FloatOps F]

/-- The positions looked up, each counted from the end where it is negative. -/
def positions : IVec S5 32 :=
  select (cmpi .slt (iotaInDim S5 32 0) (broadcastInDim S5 ![] bcast_S_S5 (constantI S_ 32 0#32)))
    (addi (iotaInDim S5 32 0) (broadcastInDim S5 ![] bcast_S_S5 (constantI S_ 32 5#32))) (iotaInDim S5 32 0)

/-- The same as a column, as the lookup takes them. -/
def column : IVec S5x1 32 := broadcastInDim S5x1 ![0] bcast_S5_S5x1_0 positions

/-- Whether each position is one of the table's rows. -/
def inRange : IVec S5x1 1 :=
  andi (cmpi .sge column (broadcastInDim S5x1 ![] bcast_S_S5x1 (constantI S_ 32 0#32)))
    (cmpi .sle column (broadcastInDim S5x1 ![0, 1] bcast_S1x1_S5x1_0_1 (broadcastInDim S1x1 ![1] bcast_S1_S1x1_1 (constantI S1 32 4#32))))

/-- The table that the lookup returns: the rows at the positions, and a fill value at a position out of range. -/
def taken (E : Vec F S5x1024 .f32) : Vec F S5x1024 .f32 :=
  select (broadcastInDim S5x1024 ![0] bcast_S5_S5x1024_0
      (Host.reduce IntOp.andi inRange (constantI S_ 1 1#1) reducesTo_S5x1_S5_d1 h_S_))
    (Host.gather gather_S5x1024_S5x1_S5x1024_1_0_n_n_0_1_11024 E column)
    (broadcastInDim S5x1024 ![] bcast_S_S5x1024 (constant S_ .f32 0x7FC00000#32))

/-- The reference's result: the patches plus the table taken, the same at every batch. -/
def result (A : Vec F S16384x5x1024 .f32) (E : Vec F S5x1024 .f32) : Vec F S16384x5x1024 .f32 :=
  addf A (broadcastInDim S16384x5x1024 ![0, 1, 2] bcast_S1x5x1024_S16384x5x1024_0_1_2
    (broadcastInDim S1x5x1024 ![1, 2] bcast_S5x1024_S1x5x1024_1_2 (taken E)))

/-- Position `p` is `p`: none is negative. -/
theorem column_at (p : Fin 5) : column (ix2 p (0 : Fin 1)) = BitVec.ofNat 32 p.val := by
  revert p; decide

/-- Every position is one of the table's rows. -/
theorem inRange_at (i : S5x1.Idx) : inRange i = 1#1 := by
  revert i; decide

/-- So the table taken is the table. -/
theorem taken_eq (E : Vec F S5x1024 .f32) : taken E = E := by
  funext i
  idx_vars i
  have hmask : (broadcastInDim S5x1024 ![0] bcast_S5_S5x1024_0
      (Host.reduce IntOp.andi inRange (constantI S_ 1 1#1) reducesTo_S5x1_S5_d1 h_S_)) (ix2 i0 i1) = 1#1 :=
    Host.reduce_andi_one _ _ _ _ _ rfl inRange_at
  have hrow : Host.gather gather_S5x1024_S5x1_S5x1024_1_0_n_n_0_1_11024 E column (ix2 i0 i1) = E (ix2 i0 i1) :=
    Routing.gather_row _ rfl rfl rfl rfl rfl E column i0 i1 i0 (column_at i0) (by decide)
  show (if _ = 1#1 then _ else _) = _
  rw [if_pos hmask, hrow]

/-- The reference's run: its result is the patches plus the table taken, its arguments are as they were, and its
    semaphores, of which it has none, are at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c : Thread nD τ).loc main_v4) = result (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run _ _ _).mono (fun r h => ⟨h, sem_eq_zero_of_no_sems rfl r.2⟩) (Cert.ReferenceIdeal.Value.run m ρ)

end Cert.AddRows.Ref

end
-- ==== Proof.Equation.lean ====
/- The equation: what the kernel leaves in its result is what the reference computes, element by element. -/
module

public import proofs.«01_k».proof.Proof.Launch
public import proofs.«01_k».proof.Proof.Reference

@[expose] public section

noncomputable section

namespace Cert.AddRows

open Idealize.ShloMosaic

variable {F : FTy → Type} [FloatOps F]

/-- Element `(b, p, d)` of the kernel's result is `A[b, p, d] + E[p, d]`. -/
theorem kernel_at (A : Vec F Cert.KernelIdeal.S16384x5x1024 .f32) (E : Vec F Cert.KernelIdeal.S5x1024 .f32)
    (b : Fin 16384) (p : Fin 5) (d : Fin 1024) :
    batches (addRows (planes A) E) (ix3 b p d) = FloatOps.addf (A (ix3 b p d)) (E (ix2 p d)) := by
  unfold batches planes addRows
  pointwise
  exact congrArg (fun i => FloatOps.addf _ (E i)) (funext fun a => match a with | 0 => rfl | 1 => rfl)

/-- Element `(b, p, d)` of the reference's result is `A[b, p, d] + E[p, d]`. -/
theorem reference_at (A : Vec F Cert.ReferenceIdeal.S16384x5x1024 .f32) (E : Vec F Cert.ReferenceIdeal.S5x1024 .f32)
    (b : Fin 16384) (p : Fin 5) (d : Fin 1024) :
    Ref.result A E (ix3 b p d) = FloatOps.addf (A (ix3 b p d)) (E (ix2 p d)) := by
  unfold Ref.result
  rw [Ref.taken_eq]
  pointwise

/-- The kernel's result is the reference's. -/
theorem kernel_eq_reference (A : Vec F Cert.KernelIdeal.S16384x5x1024 .f32) (E : Vec F Cert.KernelIdeal.S5x1024 .f32) :
    batches (addRows (planes A) E) = Ref.result A E := by
  funext i
  idx_vars i
  exact (kernel_at A E i0 i1 i2).trans (reference_at A E i0 i1 i2).symm

end Cert.AddRows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's exact program and the reference, run on the same patches and table, end with the same result. -/
theorem algebraic : Cert.algebraic_KernelIdeal_ReferenceIdeal (hKernelIdeal := Cert.KernelIdeal.Gen.facts)
    (hReferenceIdeal := Cert.ReferenceIdeal.Gen.facts) := fun m g m' g' _ same =>
  ⟨fun c => AddRows.batches (AddRows.addRows (AddRows.planes (m ((c.tc : Thread _ _).loc Cert.KernelIdeal.main_arg0)))
      (m ((c.tc : Thread _ _).loc Cert.KernelIdeal.main_arg1))),
    (θ_run _ _ _).mono (fun _ h => h.1) (AddRows.run m g),
    (θ_run _ _ _).mono (fun _ h c => ⟨by
      rw [(h.1 c).1, (same c).1, (same c).2]
      exact (AddRows.kernel_eq_reference _ _).symm, (h.1 c).2⟩) (AddRows.Ref.run m' g')⟩

/-- All of the claims. -/
theorem claim : Cert.Claim := ⟨Cert.Kernel.Gen.facts, Cert.KernelIdeal.Gen.facts, Cert.ReferenceIdeal.Gen.facts,
  fun m g _ => AddRows.own_runs m g,
  fun m g _ => AddRows.ideal_runs Ideal m g,
  fun m g _ => (θ_run _ _ _).mono (fun _ h => ⟨fun c => (h.1 c).2, h.2⟩) (AddRows.Ref.run m g),
  trivial,
  algebraic⟩

end Cert.Proof

end
